-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x512 : Shape := ⟨3, ![4, 4096, 512]⟩
abbrev S_ : Shape := ⟨0, ![]⟩
abbrev S512x512 : Shape := ⟨2, ![512, 512]⟩
abbrev S512 : Shape := ⟨1, ![512]⟩

class Facts : Prop where
  bcast_S_S4x4096x512 : S_.BroadcastsInDim S4x4096x512 (![] : Fin 0 → Fin S4x4096x512.rank)
  bcast_S_S512x512 : S_.BroadcastsInDim S512x512 (![] : Fin 0 → Fin S512x512.rank)
  bcast_S_S512 : S_.BroadcastsInDim S512 (![] : Fin 0 → Fin S512.rank)

variable [Facts]

def fn {F : FTy → Type} [FloatOps F] (main_arg0 : FVec F S4x4096x512 .f32) (main_arg1 : IVec S_ 32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S4x4096x512 1 × IVec S512x512 1 × IVec S512 1 × IVec S512x512 1 × IVec S512 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S512x512 .f32 := Host.absf main_arg2
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512 .f32 := Host.absf main_arg3
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512 .f32 := Host.absf main_arg5
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  (main_v2, main_v5, main_v8, main_v11, main_v14)
-- ==== Kernel.lean ====
abbrev S4x4096x512 : Shape := ⟨3, ![4, 4096, 512]⟩
abbrev S_ : Shape := ⟨0, ![]⟩
abbrev S512x512 : Shape := ⟨2, ![512, 512]⟩
abbrev S512 : Shape := ⟨1, ![512]⟩
abbrev S1x512 : Shape := ⟨2, ![1, 512]⟩
abbrev S1x1024x512 : Shape := ⟨3, ![1, 1024, 512]⟩
abbrev S1x4096x512 : Shape := ⟨3, ![1, 4096, 512]⟩
abbrev S512x4096 : Shape := ⟨2, ![512, 4096]⟩
abbrev S4096x512 : Shape := ⟨2, ![4096, 512]⟩
abbrev S1024x512 : Shape := ⟨2, ![1024, 512]⟩
abbrev S1024x1 : Shape := ⟨2, ![1024, 1]⟩
abbrev S512x2048 : Shape := ⟨2, ![512, 2048]⟩
abbrev S1024x2048 : Shape := ⟨2, ![1024, 2048]⟩
abbrev S1024 : Shape := ⟨1, ![1024]⟩
abbrev S2048x512 : Shape := ⟨2, ![2048, 512]⟩

abbrev nBuf : Space → Nat
  | .hbm => 15
  | .vmem => 15
  | .smem => 0
  | _ => 0

abbrev bufTy : (tb : Table) → Fin (tcTables nBuf tb) → BufTy
  | .hbm, ⟨0, _⟩ => ⟨S4x4096x512, .f32⟩
  | .hbm, ⟨1, _⟩ => ⟨S_, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S1x512, .f32⟩
  | .hbm, ⟨13, _⟩ => ⟨S1x512, .f32⟩
  | .hbm, ⟨14, _⟩ => ⟨S4x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x1024x512, .f32⟩
  | .local _ .vmem, ⟨10, _⟩ => ⟨S1x1024x512, .f32⟩
  | .local _ .vmem, ⟨11, _⟩ => ⟨S512x4096, .bf16⟩
  | .local _ .vmem, ⟨12, _⟩ => ⟨S4096x512, .bf16⟩
  | .local _ .vmem, ⟨13, _⟩ => ⟨S1024x512, .bf16⟩
  | .local _ .vmem, ⟨14, _⟩ => ⟨S4096x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S4x4096x512 : Shape := ⟨3, ![4, 4096, 512]⟩
abbrev S_ : Shape := ⟨0, ![]⟩
abbrev S512x512 : Shape := ⟨2, ![512, 512]⟩
abbrev S512 : Shape := ⟨1, ![512]⟩
abbrev S1x1x512 : Shape := ⟨3, ![1, 1, 512]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S_, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S4x4096x512, .f32⟩
  | .hbm, ⟨9, _⟩ => ⟨S1x1x512, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S1x1x512, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S1x1x512, .f32⟩
  | .hbm, ⟨18, _⟩ => ⟨S4x4096x512, .f32⟩
  | .hbm, ⟨19, _⟩ => ⟨S4x4096x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Consts.lean ====
/-
  The float constants the two programs spell, as the extended reals they denote.
-/
module

public import Idealize.ShloMosaic.PureOps.Ideal

@[expose] public section

noncomputable section

namespace Cert.Consts

open Idealize.ShloMosaic

/-- The feature count, whose root the scores are divided by. -/
theorem ofBits_512 : Ideal.ofBits .f32 0x44000000#32 = ((512 : ℝ) : EReal) := by
  simp [Ideal.ofBits, Ideal.ieee, -EReal.coe_mul]; norm_num

/-- The exponent of that root. -/
theorem ofBits_half : Ideal.ofBits .f32 0x3F000000#32 = ((1 / 2 : ℝ) : EReal) := by
  simp [Ideal.ofBits, Ideal.ieee, -EReal.coe_mul]; norm_num

/-- What a maximum starts from. -/
theorem ofBits_neg_inf : Ideal.ofBits .f32 0xFF800000#32 = ⊥ := by
  simp [Ideal.ofBits, Ideal.ieee]

/-- What the precondition compares with. -/
theorem ofBits_inf : Ideal.ofBits .f32 0x7F800000#32 = ⊤ := by
  simp [Ideal.ofBits, Ideal.ieee]

end Cert.Consts

end
-- ==== Proof.Softmax.lean ====
/-
  Sums over the extended reals and the softmax average, with nothing of the two programs in it.
-/
module

public import Idealize.ShloMosaic.PureOps.Ideal
public import Mathlib.Data.EReal.Operations
public import Mathlib.Analysis.SpecialFunctions.Pow.Real

@[expose] public section

noncomputable section

namespace Cert.Softmax

open Idealize.ShloMosaic

variable {ι : Type*}

/-- The sum of real numbers is the same number in the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a sum of extended reals, infinite terms included. -/
theorem sum_mul_real (s : Finset ι) (f : ι → EReal) {t : ℝ} (ht : 0 ≤ t) :
    ∑ i ∈ s, f i * (t : EReal) = (∑ i ∈ s, f i) * (t : EReal) := by
  classical
  induction s using Finset.induction_on with
  | empty => simp
  | insert a s ha ih =>
    rw [Finset.sum_insert ha, Finset.sum_insert ha, ih,
      EReal.right_distrib_of_nonneg_of_ne_top (by exact_mod_cast ht) (EReal.coe_ne_top t)]

/-- Nonnegative real weights spread over `v + b`: the constant `b` is weighed by the weights' sum. -/
theorem sum_weights_add (s : Finset ι) (p : ι → ℝ) (hp : ∀ i, 0 ≤ p i) (v : ι → EReal) (b : EReal) :
    ∑ i ∈ s, (p i : EReal) * (v i + b) = ∑ i ∈ s, (p i : EReal) * v i + ((∑ i ∈ s, p i : ℝ) : EReal) * b := by
  classical
  induction s using Finset.induction_on with
  | empty => simp
  | insert a s ha ih =>
    rw [Finset.sum_insert ha, Finset.sum_insert ha, Finset.sum_insert ha, ih, EReal.coe_add,
      EReal.left_distrib_of_nonneg_of_ne_top (by exact_mod_cast hp a) (EReal.coe_ne_top _),
      EReal.right_distrib_of_nonneg (by exact_mod_cast hp a) (by exact_mod_cast Finset.sum_nonneg fun i _ => hp i),
      add_add_add_comm]

/-- The largest of finitely many reals, at least one, is a real. -/
theorem exists_fold_max (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

variable [Fintype ι] [Nonempty ι]

/-- The softmax average of `v + b` with the largest score taken off each score is the plain quotient of the
    exponentially weighed sum by the weights' sum, plus `b`: a shift `β` common to all scores and the largest score
    cancel. The values `v` and `b` may be infinite. -/
theorem average (a : ι → ℝ) (β M : ℝ) (v : ι → EReal) (b : EReal) :
    ∑ j, Ideal.div (Ideal.exp (((a j + β : ℝ) : EReal) - (M : EReal)))
        (∑ k, Ideal.exp (((a k + β : ℝ) : EReal) - (M : EReal))) * (v j + b)
      = Ideal.div (∑ j, (Real.exp (a j) : EReal) * v j) (∑ j, (Real.exp (a j) : EReal)) + b := by
  have hL : (0 : ℝ) < ∑ k, Real.exp (a k) := Finset.sum_pos (fun k _ => Real.exp_pos _) Finset.univ_nonempty
  have hE : ∀ k, Ideal.exp (((a k + β : ℝ) : EReal) - (M : EReal)) = ((Real.exp (a k) * Real.exp (β - M) : ℝ) : EReal) := by
    intro k
    rw [← EReal.coe_sub, Ideal.exp_coe, ← Real.exp_add, add_sub_assoc]
  have hS : (∑ k, Real.exp (a k) * Real.exp (β - M)) = (∑ k, Real.exp (a k)) * Real.exp (β - M) := (Finset.sum_mul _ _ _).symm
  have hS0 : (∑ k, Real.exp (a k)) * Real.exp (β - M) ≠ 0 := (mul_pos hL (Real.exp_pos _)).ne'
  have hp : ∀ j, Ideal.div (Ideal.exp (((a j + β : ℝ) : EReal) - (M : EReal)))
      (∑ k, Ideal.exp (((a k + β : ℝ) : EReal) - (M : EReal))) = ((Real.exp (a j) * (1 / ∑ k, Real.exp (a k)) : ℝ) : EReal) := by
    intro j
    simp only [hE]
    rw [← coe_sum, hS, Ideal.div_coe hS0, ← EReal.coe_mul]
    congr 1
    have := (Real.exp_pos (β - M)).ne'
    have := hL.ne'
    field_simp
  simp only [hp]
  rw [sum_weights_add _ _ (fun j => mul_nonneg (Real.exp_pos _).le (one_div_nonneg.mpr hL.le)), ← Finset.sum_mul,
    mul_one_div_cancel hL.ne', EReal.coe_one, one_mul, ← coe_sum, Ideal.div_coe hL.ne',
    ← sum_mul_real _ _ (one_div_nonneg.mpr hL.le)]
  congr 1
  refine Finset.sum_congr rfl fun j _ => ?_
  rw [EReal.coe_mul, mul_right_comm]

end Cert.Softmax

end
-- ==== Proof.Attention.lean ====
/-
  The two formulas for one entry of the result, over the extended reals, and their equation.
-/
module

public import proofs.«01_k».proof.Proof.Softmax
public import Mathlib.Algebra.BigOperators.Fin
public import Mathlib.Analysis.SpecialFunctions.Log.Basic

@[expose] public section

noncomputable section

namespace Cert.Attention

open Idealize.ShloMosaic Cert.Softmax

/-- One sequence's tokens, by token and feature. -/
abbrev Tokens := Fin 4096 → Fin 512 → EReal
/-- A projection's weights, by output and input feature. -/
abbrev Weights := Fin 512 → Fin 512 → EReal

/-- A projection of token `r` without its bias, at feature `o`. -/
def proj (x : Tokens) (W : Weights) (r : Fin 4096) (o : Fin 512) : EReal := ∑ f, x r f * W o f

/-- The root of the feature count. -/
def root : EReal := Ideal.pow ((512 : ℝ) : EReal) ((1 / 2 : ℝ) : EReal)

/-- The factor the kernel folds into the queries: one over the logarithm of two, over the root. -/
def scale : EReal := Ideal.div (((Real.log 2)⁻¹ : ℝ) : EReal) root

/-- The reference's score of query `r` with key `j`. -/
def score (x : Tokens) (Wq Wk : Weights) (bq bk : Fin 512 → EReal) (r j : Fin 4096) : EReal :=
  Ideal.div (∑ o, (proj x Wq r o + bq o) * (proj x Wk j o + bk o)) root

/-- The reference's largest score of query `r`. -/
def top (x : Tokens) (Wq Wk : Weights) (bq bk : Fin 512 → EReal) (r : Fin 4096) : EReal :=
  max ⊥ (Finset.univ.fold max ⊥ fun j => score x Wq Wk bq bk r j)

/-- The reference's entry for token `r` and feature `d`. -/
def refAt (x : Tokens) (Wq Wk Wv : Weights) (bq bk bv : Fin 512 → EReal) (r : Fin 4096) (d : Fin 512) : EReal :=
  ∑ j, Ideal.div (Ideal.exp (score x Wq Wk bq bk r j - top x Wq Wk bq bk r))
      (∑ k, Ideal.exp (score x Wq Wk bq bk r k - top x Wq Wk bq bk r)) * (proj x Wv j d + bv d)

/-- The kernel's query of token `r` at feature `o`, scaled. -/
def query (x : Tokens) (Wq : Weights) (bq : Fin 512 → EReal) (r : Fin 4096) (o : Fin 512) : EReal :=
  (∑ f, x r f * (Wq o f * scale)) + bq o * scale

/-- The kernel's key of token `j` at feature `o`: no bias. -/
def key (x : Tokens) (Wk : Weights) (o : Fin 512) (j : Fin 4096) : EReal := ∑ f, Wk o f * x j f

/-- The kernel's unnormalised weight of key `j` for query `r`. -/
def weight (x : Tokens) (Wq Wk : Weights) (bq : Fin 512 → EReal) (r j : Fin 4096) : EReal :=
  Ideal.exp2 (∑ o, query x Wq bq r o * key x Wk o j)

/-- Token `j` of the first half. -/
def lo (j : Fin 2048) : Fin 4096 := ⟨j.val, by omega⟩
/-- Token `j` of the second half. -/
def hi (j : Fin 2048) : Fin 4096 := ⟨2048 + j.val, by omega⟩

/-- The kernel's entry for token `r` and feature `d`: both halves summed in turn. -/
def kernelAt (x : Tokens) (Wq Wk Wv : Weights) (bq bv : Fin 512 → EReal) (r : Fin 4096) (d : Fin 512) : EReal :=
  Ideal.div ((∑ j, weight x Wq Wk bq r (lo j) * proj x Wv (lo j) d) + ∑ j, weight x Wq Wk bq r (hi j) * proj x Wv (hi j) d)
    ((∑ j, weight x Wq Wk bq r (lo j)) + ∑ j, weight x Wq Wk bq r (hi j)) + bv d

/-- The sum over the tokens is the sum over the first half and the sum over the second. -/
theorem sum_halves (g : Fin 4096 → EReal) : ∑ j, g j = (∑ j, g (lo j)) + ∑ j, g (hi j) :=
  Fin.sum_univ_add (a := 2048) (b := 2048) g

/-- The root is a positive real. -/
theorem root_eq : ∃ s : ℝ, 0 < s ∧ root = (s : EReal) :=
  ⟨Real.rpow 512 (1 / 2), Real.rpow_pos_of_pos (by norm_num) _, by unfold root; rw [Ideal.pow_coe_coe]⟩

/-- The exponential of base two of a number over the logarithm of two is the natural exponential. -/
theorem exp2_div_log (t : ℝ) : Ideal.exp2 ((t * (Real.log 2)⁻¹ : ℝ) : EReal) = (Real.exp t : EReal) := by
  rw [Ideal.exp2_coe]
  congr 1
  show (2 : ℝ) ^ (t * (Real.log 2)⁻¹) = _
  rw [Real.rpow_def_of_pos (by norm_num)]
  congr 1
  have := (Real.log_pos (by norm_num : (1 : ℝ) < 2)).ne'
  field_simp

/-- Where the tokens, the queries' projection and the keys' projection are finite, the reference's entry is the
    kernel's. The values' projection may be infinite. -/
theorem refAt_eq_kernelAt (x : Fin 4096 → Fin 512 → ℝ) (Wq Wk : Fin 512 → Fin 512 → ℝ) (bq bk : Fin 512 → ℝ)
    (Wv : Weights) (bv : Fin 512 → EReal) (r : Fin 4096) (d : Fin 512) :
    refAt (fun j f => x j f) (fun o f => Wq o f) (fun o f => Wk o f) Wv (fun o => bq o) (fun o => bk o) bv r d
      = kernelAt (fun j f => x j f) (fun o f => Wq o f) (fun o f => Wk o f) Wv (fun o => bq o) bv r d := by
  obtain ⟨s, hs, hroot⟩ := root_eq
  -- the query and the keys as reals
  let Q : Fin 512 → ℝ := fun o => (∑ f, x r f * Wq o f) + bq o
  let K : Fin 4096 → Fin 512 → ℝ := fun j o => ∑ f, x j f * Wk o f
  let a : Fin 4096 → ℝ := fun j => (∑ o, Q o * K j o) / s
  let β : ℝ := (∑ o, Q o * bk o) / s
  have hscore : ∀ j, score (fun j f => (x j f : EReal)) (fun o f => (Wq o f : EReal)) (fun o f => (Wk o f : EReal))
      (fun o => (bq o : EReal)) (fun o => (bk o : EReal)) r j = ((a j + β : ℝ) : EReal) := by
    intro j
    unfold score proj
    simp only [hroot, ← EReal.coe_mul, ← EReal.coe_add, ← coe_sum]
    rw [Ideal.div_coe hs.ne', ← EReal.coe_mul]
    congr 1
    show (∑ o, Q o * (K j o + bk o)) * (1 / s) = (∑ o, Q o * K j o) / s + (∑ o, Q o * bk o) / s
    simp only [mul_add, Finset.sum_add_distrib]
    ring
  have hscale : scale = (((Real.log 2)⁻¹ * (1 / s) : ℝ) : EReal) := by
    unfold scale; rw [hroot, Ideal.div_coe hs.ne', ← EReal.coe_mul]
  have hquery : ∀ o, query (fun j f => (x j f : EReal)) (fun o f => (Wq o f : EReal)) (fun o => (bq o : EReal)) r o
      = ((Q o * ((Real.log 2)⁻¹ * (1 / s)) : ℝ) : EReal) := by
    intro o
    unfold query
    simp only [hscale, ← EReal.coe_mul, ← EReal.coe_add, ← coe_sum]
    congr 1
    show _ = ((∑ f, x r f * Wq o f) + bq o) * _
    rw [add_mul, Finset.sum_mul]
    simp only [mul_assoc]
  have hkey : ∀ j o, key (fun j f => (x j f : EReal)) (fun o f => (Wk o f : EReal)) o j = ((K j o : ℝ) : EReal) := by
    intro j o
    unfold key
    simp only [← EReal.coe_mul, ← coe_sum]
    congr 1
    exact Finset.sum_congr rfl fun f _ => mul_comm _ _
  have hweight : ∀ j, weight (fun j f => (x j f : EReal)) (fun o f => (Wq o f : EReal)) (fun o f => (Wk o f : EReal))
      (fun o => (bq o : EReal)) r j = (Real.exp (a j) : EReal) := by
    intro j
    unfold weight
    simp only [hquery, hkey, ← EReal.coe_mul, ← coe_sum]
    rw [← exp2_div_log]
    congr 2
    show _ = (∑ o, Q o * K j o) / s * (Real.log 2)⁻¹
    rw [div_mul_eq_mul_div, Finset.sum_mul, Finset.sum_div]
    exact Finset.sum_congr rfl fun o _ => by ring
  obtain ⟨M, hM⟩ := exists_fold_max (Finset.univ : Finset (Fin 4096)) Finset.univ_nonempty (fun j => a j + β)
  have htop : top (fun j f => (x j f : EReal)) (fun o f => (Wq o f : EReal)) (fun o f => (Wk o f : EReal))
      (fun o => (bq o : EReal)) (fun o => (bk o : EReal)) r = (M : EReal) := by
    unfold top
    simp only [hscore, hM, bot_le, max_eq_right]
  unfold refAt kernelAt
  simp only [hscore, htop, hweight]
  rw [average a β M (fun j => proj _ Wv j d) (bv d), sum_halves, sum_halves (fun j => (Real.exp (a j) : EReal))]

end Cert.Attention

end
-- ==== Proof.Reference.lean ====
/-
  The reference's result read at an index, over the extended reals.
-/
module

public import proofs.«01_k».proof.Proof.Gen.ReferenceIdeal.Run
public import proofs.«01_k».proof.Proof.Consts
public import proofs.«01_k».proof.Proof.Attention
public import Idealize.ShloMosaic.Lib.Pointwise

@[expose] public section

set_option maxRecDepth 16384

noncomputable section

namespace Cert.ReferenceIdeal.At

open Cert.ReferenceIdeal Cert.ReferenceIdeal.Value Cert.ReferenceIdeal.Facts₀ Cert.ReferenceIdeal.Facts Idealize.ShloMosaic Idealize.ShloMosaic.TcCoe Idealize.SL.Sem

/-- A projection with its bias, as the reference composes it. -/
abbrev linear (x : FVec Ideal S4x4096x512 .f32) (w : FVec Ideal S512x512 .f32) (b : FVec Ideal S512 .f32) : FVec Ideal S4x4096x512 .f32 :=
  addf (Host.dotGeneral dot_S4x4096x512_S512x512_S4x4096x512_2_1_01_0_n_n none x w)
    (broadcastInDim S4x4096x512 ![0, 1, 2] bcast_S1x1x512_S4x4096x512_0_1_2 (broadcastInDim S1x1x512 ![2] bcast_S512_S1x1x512_2 b))

/-- The scores, as the reference composes them of the queries and the keys. -/
abbrev scores (q k : FVec Ideal S4x4096x512 .f32) : FVec Ideal S4x4096x4096 .f32 :=
  Host.divf (Host.dotGeneral dot_S4x4096x512_S4x4096x512_S4x4096x4096_2_2_1_1_0_0 none q k)
    (broadcastInDim S4x4096x4096 ![] bcast_S_S4x4096x4096 (Host.powf (constant S_ .f32 0x44000000#32) (constant S_ .f32 0x3F000000#32)))

/-- Each query's largest score. -/
abbrev largest (s : FVec Ideal S4x4096x4096 .f32) : FVec Ideal S4x4096 .f32 :=
  Host.reduce FloatOps.maximumf s (constant S_ .f32 0xFF800000#32) reducesTo_S4x4096x4096_S4x4096_d2 h_S_

/-- The exponentials of the scores less each query's `t`. -/
abbrev expo (s : FVec Ideal S4x4096x4096 .f32) (t : FVec Ideal S4x4096 .f32) : FVec Ideal S4x4096x4096 .f32 :=
  Host.exp (subf s (broadcastInDim S4x4096x4096 ![0, 1, 2] bcast_S4x4096x1_S4x4096x4096_0_1_2
    (broadcastInDim S4x4096x1 ![0, 1] bcast_S4x4096_S4x4096x1_0_1
      (maximumf (broadcastInDim S4x4096 ![] bcast_S_S4x4096 (constant S_ .f32 0xFF800000#32)) t))))

/-- The values averaged by the exponentials over their sum. -/
abbrev averaged (e : FVec Ideal S4x4096x4096 .f32) (v : FVec Ideal S4x4096x512 .f32) : FVec Ideal S4x4096x512 .f32 :=
  Host.dotGeneral dot_S4x4096x4096_S4x4096x512_S4x4096x512_2_1_1_2_0_0 none
    (Host.divf e (broadcastInDim S4x4096x4096 ![0, 1, 2] bcast_S4x4096x1_S4x4096x4096_0_1_2
      (broadcastInDim S4x4096x1 ![0, 1] bcast_S4x4096_S4x4096x1_0_1
        (Host.reduceAdd e (constant S_ .f32 0x00000000#32) reducesTo_S4x4096x4096_S4x4096_d2 h_S_)))) v

/-- A projection at an index. -/
theorem linear_at (x : FVec Ideal S4x4096x512 .f32) (w : FVec Ideal S512x512 .f32) (b : FVec Ideal S512 .f32)
    (n : Fin 4) (r : Fin 4096) (o : Fin 512) :
    linear x w b (ix3 n r o) = (∑ f : Fin 512, x (ix3 n r f) * w (ix2 o f)) + b (ix1 o) := by
  pointwise [linear]

/-- The scores at an index. -/
theorem scores_at (q k : FVec Ideal S4x4096x512 .f32) (n : Fin 4) (r j : Fin 4096) :
    scores q k (ix3 n r j) = Ideal.div (∑ o : Fin 512, q (ix3 n r o) * k (ix3 n j o)) Attention.root := by
  pointwise [scores]
  rw [Consts.ofBits_512, Consts.ofBits_half]
  rfl

/-- Each query's largest score at an index. -/
theorem largest_at (s : FVec Ideal S4x4096x4096 .f32) (n : Fin 4) (r : Fin 4096) :
    largest s (ix2 n r) = Finset.univ.fold max (Ideal.ofBits .f32 0xFF800000#32) fun k : Fin 4096 => s (ix3 n r k) := by
  pointwise [largest]

/-- The exponentials at an index. -/
theorem expo_at (s : FVec Ideal S4x4096x4096 .f32) (t : FVec Ideal S4x4096 .f32) (n : Fin 4) (r j : Fin 4096) :
    expo s t (ix3 n r j) = Ideal.exp (s (ix3 n r j) - max ⊥ (t (ix2 n r))) := by
  pointwise [expo]
  rw [Consts.ofBits_neg_inf]

/-- The average at an index. -/
theorem averaged_at (e : FVec Ideal S4x4096x4096 .f32) (v : FVec Ideal S4x4096x512 .f32) (n : Fin 4) (r : Fin 4096) (d : Fin 512) :
    averaged e v (ix3 n r d) = ∑ j : Fin 4096, Ideal.div (e (ix3 n r j)) (∑ k : Fin 4096, e (ix3 n r k)) * v (ix3 n j d) := by
  pointwise [averaged]

variable (m : (ℓ : Loc nD τ sig) → Buf (Elt Ideal) ℓ) (c : Dev nD)

/-- Sequence `b`'s tokens, as the reference finds them. -/
def tokens (b : Fin 4) : Attention.Tokens := fun j f => (m (c.tc.loc main_arg0) : Vec Ideal S4x4096x512 .f32) (ix3 b j f)
/-- The queries' weights. -/
def wq : Attention.Weights := fun o f => (m (c.tc.loc main_arg2) : Vec Ideal S512x512 .f32) (ix2 o f)
/-- The queries' bias. -/
def bq : Fin 512 → EReal := fun o => (m (c.tc.loc main_arg3) : Vec Ideal S512 .f32) (ix1 o)
/-- The keys' weights. -/
def wk : Attention.Weights := fun o f => (m (c.tc.loc main_arg4) : Vec Ideal S512x512 .f32) (ix2 o f)
/-- The keys' bias. -/
def bk : Fin 512 → EReal := fun o => (m (c.tc.loc main_arg5) : Vec Ideal S512 .f32) (ix1 o)
/-- The values' weights. -/
def wv : Attention.Weights := fun o f => (m (c.tc.loc main_arg6) : Vec Ideal S512x512 .f32) (ix2 o f)
/-- The values' bias. -/
def bv : Fin 512 → EReal := fun o => (m (c.tc.loc main_arg7) : Vec Ideal S512 .f32) (ix1 o)

/-- The scores of the reference's own arguments. -/
abbrev sc : FVec Ideal S4x4096x4096 .f32 :=
  scores (linear (m (c.tc.loc main_arg0)) (m (c.tc.loc main_arg2)) (m (c.tc.loc main_arg3)))
    (linear (m (c.tc.loc main_arg0)) (m (c.tc.loc main_arg4)) (m (c.tc.loc main_arg5)))

/-- The reference's result is its stages composed. -/
theorem res_stages : (res_out0 m c : FVec Ideal S4x4096x512 .f32)
    = averaged (expo (sc m c) (largest (sc m c)))
      (linear (m (c.tc.loc main_arg0)) (m (c.tc.loc main_arg6)) (m (c.tc.loc main_arg7))) := by
  unfold res_out0 res_main_v27
  rfl

/-- The scores of the reference's own arguments at an index. -/
theorem sc_at (b : Fin 4) (r j : Fin 4096) :
    sc m c (ix3 b r j) = Attention.score (tokens m c b) (wq m c) (wk m c) (bq m c) (bk m c) r j := by
  unfold sc
  rw [scores_at]
  simp only [linear_at]
  rfl

/-- The reference's result at sequence `b`, token `r` and feature `d`. -/
theorem res_at (b : Fin 4) (r : Fin 4096) (d : Fin 512) :
    (res_out0 m c : FVec Ideal S4x4096x512 .f32) (ix3 b r d)
      = Attention.refAt (tokens m c b) (wq m c) (wk m c) (wv m c) (bq m c) (bk m c) (bv m c) r d := by
  rw [res_stages, averaged_at]
  simp only [expo_at, largest_at, sc_at, linear_at, Consts.ofBits_neg_inf]
  unfold Attention.refAt Attention.top Attention.proj
  rfl

end Cert.ReferenceIdeal.At

end
-- ==== Proof.Cases.lean ====
/-
  What one grid point leaves behind: the three case terms of the generated frame, written over the kernel's payloads.
-/
module

public import proofs.«01_k».proof.Proof.Gen.KernelIdeal.Frame
public import Idealize.ShloMosaic.Lib.Pointwise
public import Idealize.ShloMosaic.Lib.Pipeline.ReadBack
public import Idealize.ShloMosaic.Lib.Tactic

@[expose] public section

set_option maxRecDepth 16384

noncomputable section

namespace Cert.KernelIdeal.Cases

open Cert.KernelIdeal Cert.KernelIdeal.Gen Idealize.ShloMosaic Idealize.ShloMosaic.TcCoe Idealize.SL.Sem

/-- Two zero offsets, as the rectangle lemmas spell them. -/
theorem hz2 : (![0, 0] : Fin 2 → Nat) = fun _ => 0 := funext fun a => by fin_cases a <;> rfl
/-- Three zero offsets, likewise. -/
theorem hz3 : (![0, 0, 0] : Fin 3 → Nat) = fun _ => 0 := funext fun a => by fin_cases a <;> rfl

variable {F : FTy → Type} [FloatOps F] [Named F]

/-- The first 2048 of the transposed keys' 4096 columns. -/
abbrev ktLo (kt : Vec F S512x4096 .bf16) : Vec F S512x2048 .bf16 :=
  View.ld kt (Rect.unit (s := S512x4096) ![0, 0] S512x2048.size inb_S512x4096_S512x2048_0_0)
/-- The last 2048 of the transposed keys' 4096 columns. -/
abbrev ktHi (kt : Vec F S512x4096 .bf16) : Vec F S512x2048 .bf16 :=
  View.ld kt (Rect.unit (s := S512x4096) ![0, 2048] S512x2048.size inb_S512x4096_S512x2048_0_2048)
/-- The first 2048 of the values' 4096 rows. -/
abbrev vLo (v : Vec F S4096x512 .bf16) : Vec F S2048x512 .bf16 :=
  View.ld v (Rect.unit (s := S4096x512) ![0, 0] S2048x512.size inb_S4096x512_S2048x512_0_0)
/-- The last 2048 of the values' 4096 rows. -/
abbrev vHi (v : Vec F S4096x512 .bf16) : Vec F S2048x512 .bf16 :=
  View.ld v (Rect.unit (s := S4096x512) ![2048, 0] S2048x512.size inb_S4096x512_S2048x512_2048_0)

/-- The block the body writes, from its queries' tokens `x`, the queries' weights and bias `w`, `b`, the values' bias
    `bv`, and the keys and values `kt`, `v` that the scratch holds. -/
def outBlock (x : Vec F S1x1024x512 .f32) (w : Vec F S512x512 .f32) (b bv : Vec F S1x512 .f32)
    (kt : Vec F S512x4096 .bf16) (v : Vec F S4096x512 .bf16) : Vec F S1x1024x512 .f32 :=
  k0_pay1 k0_pay6 (k0_pay7 (k0_pay5 x w b) (ktLo kt)) (k0_pay8 (k0_pay5 x w b) (ktLo kt)) (vLo v) (k0_pay5 x w b)
    (ktHi kt) (vHi v) bv

/-- A sequence's first point leaves the transposed keys of the whole sequence in the first scratch. -/
theorem kt_A (c : Dev nD) (i : grid0.Coords) (a2 : Memref sig .tc .vmem S1x1024x512 .f32) (h2 : a2.IsWhole)
    (a3 : Memref sig .tc .vmem S1x4096x512 .f32) (h3 : a3.IsWhole)
    (a4 : Memref sig .tc .vmem S512x512 .f32) (h4 : a4.IsWhole)
    (a5 : Memref sig .tc .vmem S512x512 .bf16) (h5 : a5.IsWhole)
    (a6 : Memref sig .tc .vmem S512x512 .bf16) (h6 : a6.IsWhole)
    (a7 : Memref sig .tc .vmem S1x512 .f32) (h7 : a7.IsWhole)
    (a8 : Memref sig .tc .vmem S1x512 .f32) (h8 : a8.IsWhole)
    (a9 : Memref sig .tc .vmem S1x1024x512 .f32) (h9 : a9.IsWhole)
    (a10 : Memref sig .tc .vmem S512x4096 .bf16) (h10 : a10.IsWhole)
    (a11 : Memref sig .tc .vmem S4096x512 .bf16) (h11 : a11.IsWhole)
    (a12 : Memref sig .tc .vmem S1024x512 .bf16) (h12 : a12.IsWhole)
    (a13 : Memref sig .tc .vmem S4096x512 .bf16) (h13 : a13.IsWhole) (hc : cond0_0 i)
    (x0 : Vec F S1x1024x512 .f32) (x1 : Vec F S1x4096x512 .f32) (x2 : Vec F S512x512 .f32)
    (x3 : Vec F S512x512 .bf16) (x4 : Vec F S512x512 .bf16) (x5 : Vec F S1x512 .f32) (x6 : Vec F S1x512 .f32) :
    sout0_A_0 c i a2 h2 a3 h3 a4 h4 a5 h5 a6 h6 a7 h7 a8 h8 a9 h9 a10 h10 a11 h11 a12 h12 a13 h13 hc x0 x1 x2 x3 x4 x5 x6 = k0_pay3 (k0_pay2 x1) x3 := by
  unfold sout0_A_0
  rw [View.read_writes_junk_eq_canon]
  unfold kernelRun0_A
  dsimp only
  sl_unfold_words
  rw [View.canon_cons_unit_zero (S := S512x4096) hz2]
  simp only [View.readCov_cons_toLoadRect, View.readAt_eq_ld, h2.read_unread, h3.read_unread, h4.read_unread, h5.read_unread, h6.read_unread, h7.read_unread, h8.read_unread, h9.read_unread, h10.read_unread, h11.read_unread, h12.read_unread, h13.read_unread, View.ld_unit_zero (S := S1x4096x512) hz3,
    View.ld_unit_zero (S := S512x512) hz2]

/-- A sequence's first point leaves the values of the whole sequence in the second scratch. -/
theorem v_A (c : Dev nD) (i : grid0.Coords) (a2 : Memref sig .tc .vmem S1x1024x512 .f32) (h2 : a2.IsWhole)
    (a3 : Memref sig .tc .vmem S1x4096x512 .f32) (h3 : a3.IsWhole)
    (a4 : Memref sig .tc .vmem S512x512 .f32) (h4 : a4.IsWhole)
    (a5 : Memref sig .tc .vmem S512x512 .bf16) (h5 : a5.IsWhole)
    (a6 : Memref sig .tc .vmem S512x512 .bf16) (h6 : a6.IsWhole)
    (a7 : Memref sig .tc .vmem S1x512 .f32) (h7 : a7.IsWhole)
    (a8 : Memref sig .tc .vmem S1x512 .f32) (h8 : a8.IsWhole)
    (a9 : Memref sig .tc .vmem S1x1024x512 .f32) (h9 : a9.IsWhole)
    (a10 : Memref sig .tc .vmem S512x4096 .bf16) (h10 : a10.IsWhole)
    (a11 : Memref sig .tc .vmem S4096x512 .bf16) (h11 : a11.IsWhole)
    (a12 : Memref sig .tc .vmem S1024x512 .bf16) (h12 : a12.IsWhole)
    (a13 : Memref sig .tc .vmem S4096x512 .bf16) (h13 : a13.IsWhole) (hc : cond0_0 i)
    (x0 : Vec F S1x1024x512 .f32) (x1 : Vec F S1x4096x512 .f32) (x2 : Vec F S512x512 .f32)
    (x3 : Vec F S512x512 .bf16) (x4 : Vec F S512x512 .bf16) (x5 : Vec F S1x512 .f32) (x6 : Vec F S1x512 .f32) :
    sout0_A_1 c i a2 h2 a3 h3 a4 h4 a5 h5 a6 h6 a7 h7 a8 h8 a9 h9 a10 h10 a11 h11 a12 h12 a13 h13 hc x0 x1 x2 x3 x4 x5 x6 = k0_pay4 (k0_pay2 x1) x4 := by
  unfold sout0_A_1
  rw [View.read_writes_junk_eq_canon]
  unfold kernelRun0_A
  dsimp only
  sl_unfold_words
  rw [View.canon_cons_unit_zero (S := S4096x512) hz2]
  simp only [View.readCov_cons_toLoadRect, View.readAt_eq_ld, h2.read_unread, h3.read_unread, h4.read_unread, h5.read_unread, h6.read_unread, h7.read_unread, h8.read_unread, h9.read_unread, h10.read_unread, h11.read_unread, h12.read_unread, h13.read_unread, View.ld_unit_zero (S := S1x4096x512) hz3,
    View.ld_unit_zero (S := S512x512) hz2]

/-- What a sequence's first point writes: the block of the keys and values it has just stored. -/
theorem out_A (c : Dev nD) (i : grid0.Coords) (a2 : Memref sig .tc .vmem S1x1024x512 .f32) (h2 : a2.IsWhole)
    (a3 : Memref sig .tc .vmem S1x4096x512 .f32) (h3 : a3.IsWhole)
    (a4 : Memref sig .tc .vmem S512x512 .f32) (h4 : a4.IsWhole)
    (a5 : Memref sig .tc .vmem S512x512 .bf16) (h5 : a5.IsWhole)
    (a6 : Memref sig .tc .vmem S512x512 .bf16) (h6 : a6.IsWhole)
    (a7 : Memref sig .tc .vmem S1x512 .f32) (h7 : a7.IsWhole)
    (a8 : Memref sig .tc .vmem S1x512 .f32) (h8 : a8.IsWhole)
    (a9 : Memref sig .tc .vmem S1x1024x512 .f32) (h9 : a9.IsWhole)
    (a10 : Memref sig .tc .vmem S512x4096 .bf16) (h10 : a10.IsWhole)
    (a11 : Memref sig .tc .vmem S4096x512 .bf16) (h11 : a11.IsWhole)
    (a12 : Memref sig .tc .vmem S1024x512 .bf16) (h12 : a12.IsWhole)
    (a13 : Memref sig .tc .vmem S4096x512 .bf16) (h13 : a13.IsWhole) (hc : cond0_0 i)
    (x0 : Vec F S1x1024x512 .f32) (x1 : Vec F S1x4096x512 .f32) (x2 : Vec F S512x512 .f32)
    (x3 : Vec F S512x512 .bf16) (x4 : Vec F S512x512 .bf16) (x5 : Vec F S1x512 .f32) (x6 : Vec F S1x512 .f32) :
    out0_A_7 c i a2 h2 a3 h3 a4 h4 a5 h5 a6 h6 a7 h7 a8 h8 a9 h9 a10 h10 a11 h11 a12 h12 a13 h13 hc x0 x1 x2 x3 x4 x5 x6
      = outBlock x0 x2 x5 x6 (k0_pay3 (k0_pay2 x1) x3) (k0_pay4 (k0_pay2 x1) x4) := by
  unfold out0_A_7
  rw [View.read_writes_junk_eq_canon]
  unfold kernelRun0_A
  dsimp only
  sl_unfold_words
  rw [View.canon_cons_unit_zero (S := S1x1024x512) hz3]
  unfold outBlock
  simp only [View.readCov_cons_toLoadRect, View.readAt_eq_ld, h2.read_unread, h3.read_unread, h4.read_unread, h5.read_unread, h6.read_unread, h7.read_unread, h8.read_unread, h9.read_unread, h10.read_unread, h11.read_unread, h12.read_unread, h13.read_unread, View.ld_unit_zero (S := S1x4096x512) hz3,
    View.ld_unit_zero (S := S512x512) hz2, View.ld_unit_zero (S := S1x512) hz2, View.ld_unit_zero (S := S1x1024x512) hz3,
    View.readCov_fill (s := S4096x512) _ inb_S4096x512_S4096x512_0_0 _ _ _ (congrFun hz2),
    View.readCov_fill (s := S512x4096) _ inb_S512x4096_S512x4096_0_0 _ _ _ (congrFun hz2),
    View.ld_unit_zero (S := S4096x512) hz2]

/-- What a sequence's later points write: the block of the keys and values the scratch still holds. -/
theorem out_B (c : Dev nD) (i : grid0.Coords) (a2 : Memref sig .tc .vmem S1x1024x512 .f32) (h2 : a2.IsWhole)
    (a3 : Memref sig .tc .vmem S1x4096x512 .f32) (h3 : a3.IsWhole)
    (a4 : Memref sig .tc .vmem S512x512 .f32) (h4 : a4.IsWhole)
    (a5 : Memref sig .tc .vmem S512x512 .bf16) (h5 : a5.IsWhole)
    (a6 : Memref sig .tc .vmem S512x512 .bf16) (h6 : a6.IsWhole)
    (a7 : Memref sig .tc .vmem S1x512 .f32) (h7 : a7.IsWhole)
    (a8 : Memref sig .tc .vmem S1x512 .f32) (h8 : a8.IsWhole)
    (a9 : Memref sig .tc .vmem S1x1024x512 .f32) (h9 : a9.IsWhole)
    (a10 : Memref sig .tc .vmem S512x4096 .bf16) (h10 : a10.IsWhole)
    (a11 : Memref sig .tc .vmem S4096x512 .bf16) (h11 : a11.IsWhole)
    (a12 : Memref sig .tc .vmem S1024x512 .bf16) (h12 : a12.IsWhole)
    (a13 : Memref sig .tc .vmem S4096x512 .bf16) (h13 : a13.IsWhole) (hc : ¬cond0_0 i)
    (x0 : Vec F S1x1024x512 .f32) (x1 : Vec F S1x4096x512 .f32) (x2 : Vec F S512x512 .f32)
    (x3 : Vec F S512x512 .bf16) (x4 : Vec F S512x512 .bf16) (x5 : Vec F S1x512 .f32) (x6 : Vec F S1x512 .f32)
    (kt : Vec F S512x4096 .bf16) (v : Vec F S4096x512 .bf16) :
    out0_B_7 c i a2 h2 a3 h3 a4 h4 a5 h5 a6 h6 a7 h7 a8 h8 a9 h9 a10 h10 a11 h11 a12 h12 a13 h13 hc x0 x1 x2 x3 x4 x5 x6 kt v
      = outBlock x0 x2 x5 x6 kt v := by
  unfold out0_B_7
  rw [View.read_writes_junk_eq_canon]
  unfold kernelRun0_B
  dsimp only
  sl_unfold_words
  rw [View.canon_cons_unit_zero (S := S1x1024x512) hz3]
  unfold outBlock
  simp only [View.readCov_cons_toLoadRect, View.readAt_eq_ld, h2.read_unread, h3.read_unread, h4.read_unread, h5.read_unread, h6.read_unread, h7.read_unread, h8.read_unread, h9.read_unread, h10.read_unread, h11.read_unread, h12.read_unread, h13.read_unread,
    View.ld_unit_zero (S := S512x512) hz2, View.ld_unit_zero (S := S1x512) hz2, View.ld_unit_zero (S := S1x1024x512) hz3]

end Cert.KernelIdeal.Cases

end
-- ==== Proof.Blocks.lean ====
/-
  The kernel's input blocks read at an index: which entry of which argument each one is.
-/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-- The sequence that point `t` works on. -/
abbrev seq (t : Fin cfg0.N) : Fin 4 := ⟨t.val / 4, by have := lt_of_lt_of_eq t.isLt (show cfg0.N = 16 from N_0); omega⟩
/-- The token of its sequence that row `r` of point `t`'s block of queries is. -/
abbrev tok (t : Fin cfg0.N) (r : Fin 1024) : Fin 4096 := ⟨1024 * (t.val % 4) + r.val, by omega⟩

/-- The blocks of queries lie in point order. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
/-- The whole sequence is the point's own. -/
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
/-- Window 2 never moves. -/
theorem idx2 : ∀ t : Fin cfg0.N, win0_2.index t (0 : Fin 2) = 0 ∧ win0_2.index t (1 : Fin 2) = 0 :=
  (by decide +kernel : ∀ t : Fin grid0.N, _)
/-- Window 3 never moves. -/
theorem idx3 : ∀ t : Fin cfg0.N, win0_3.index t (0 : Fin 2) = 0 ∧ win0_3.index t (1 : Fin 2) = 0 :=
  (by decide +kernel : ∀ t : Fin grid0.N, _)
/-- Window 4 never moves. -/
theorem idx4 : ∀ t : Fin cfg0.N, win0_4.index t (0 : Fin 2) = 0 ∧ win0_4.index t (1 : Fin 2) = 0 :=
  (by decide +kernel : ∀ t : Fin grid0.N, _)
/-- Window 5 never moves. -/
theorem idx5 : ∀ t : Fin cfg0.N, win0_5.index t (0 : Fin 2) = 0 ∧ win0_5.index t (1 : Fin 2) = 0 :=
  (by decide +kernel : ∀ t : Fin grid0.N, _)
/-- Window 6 never moves. -/
theorem idx6 : ∀ t : Fin cfg0.N, win0_6.index t (0 : Fin 2) = 0 ∧ win0_6.index t (1 : Fin 2) = 0 :=
  (by decide +kernel : ∀ t : Fin grid0.N, _)

/-- A point's queries are its rows of its sequence. -/
theorem tokens_at (t : Fin cfg0.N) (r : Fin 1024) (f : Fin 512) :
    (iblk m c 0 t : Vec Ideal S1x1024x512 .f32) (ix3 0 r f) = m ((c : Thread nD τ).loc main_arg0) (ix3 (seq t) (tok t r) f) := by
  have hi := idx0 t
  unfold iblk
  rw [View.read_apply]
  show V m c main_arg0 _ = _
  rw [V_main_arg0]
  congr 1
  funext a
  apply Fin.ext
  match a with
  | ⟨0, _⟩ => show win0_0.index t 0 * 1 + 1 * 0 = t.val / 4; rw [hi.1]; omega
  | ⟨1, _⟩ => show win0_0.index t 1 * 1024 + 1 * r.val = 1024 * (t.val % 4) + r.val; rw [hi.2.1]; omega
  | ⟨2, _⟩ => show win0_0.index t 2 * 512 + 1 * f.val = f.val; rw [hi.2.2]; omega

/-- A point's keys and values come of its whole sequence. -/
theorem sequence_at (t : Fin cfg0.N) (j : Fin 4096) (f : Fin 512) :
    (iblk m c 1 t : Vec Ideal S1x4096x512 .f32) (ix3 0 j f) = m ((c : Thread nD τ).loc main_arg0) (ix3 (seq t) j f) := by
  have hi := idx1 t
  unfold iblk
  rw [View.read_apply]
  show V m c main_arg0 _ = _
  rw [V_main_arg0]
  congr 1
  funext a
  apply Fin.ext
  match a with
  | ⟨0, _⟩ => show win0_1.index t 0 * 1 + 1 * 0 = t.val / 4; rw [hi.1]; omega
  | ⟨1, _⟩ => show win0_1.index t 1 * 4096 + 1 * j.val = j.val; rw [hi.2.1]; omega
  | ⟨2, _⟩ => show win0_1.index t 2 * 512 + 1 * f.val = f.val; rw [hi.2.2]; omega

/-- The queries' weights arrive transposed. -/
theorem wq_array : (V m c main_v0 : Vec Ideal S512x512 .f32)
    = transpose S512x512 [1, 0] (m ((c : Thread nD τ).loc main_arg2) : Vec Ideal S512x512 .f32) transposes_S512x512_S512x512_1_0 := by
  unfold V hostOps0
  after_results_simp

/-- The keys' weights arrive rounded. -/
theorem wk_array : (V m c main_v1 : Vec Ideal S512x512 .bf16)
    = (truncf .bf16 (m ((c : Thread nD τ).loc main_arg4) : FVec Ideal S512x512 .f32) bitsLt_bf16_f32 : FVec Ideal S512x512 .bf16) := by
  unfold V hostOps0
  after_results_simp

/-- The values' weights arrive transposed and rounded. -/
theorem wv_array : (V m c main_v3 : Vec Ideal S512x512 .bf16)
    = (truncf .bf16 (transpose S512x512 [1, 0] (m ((c : Thread nD τ).loc main_arg6) : FVec Ideal S512x512 .f32) transposes_S512x512_S512x512_1_0 : FVec Ideal S512x512 .f32) bitsLt_bf16_f32 : FVec Ideal S512x512 .bf16) := by
  unfold V hostOps0
  after_results_simp

/-- The queries' bias arrives as one row. -/
theorem bq_array : (V m c main_v4 : Vec Ideal S1x512 .f32)
    = shapeCast S1x512 (m ((c : Thread nD τ).loc main_arg3) : Vec Ideal S512 .f32) shapeCasts_S512_S1x512 := by
  unfold V hostOps0
  after_results_simp
  rfl

/-- The values' bias arrives as one row. -/
theorem bv_array : (V m c main_v5 : Vec Ideal S1x512 .f32)
    = shapeCast S1x512 (m ((c : Thread nD τ).loc main_arg7) : Vec Ideal S512 .f32) shapeCasts_S512_S1x512 := by
  unfold V hostOps0
  after_results_simp
  rfl

/-- The block of the queries' weights. -/
theorem wq_at (t : Fin cfg0.N) (f o : Fin 512) :
    (iblk m c 2 t : Vec Ideal S512x512 .f32) (ix2 f o) = m ((c : Thread nD τ).loc main_arg2) (ix2 o f) := by
  have hi := idx2 t
  have e : (iblk m c 2 t : Vec Ideal S512x512 .f32) = V m c main_v0 := by
    funext j
    unfold iblk
    rw [View.read_apply]
    show V m c main_v0 _ = V m c main_v0 j
    congr 1
    funext a
    apply Fin.ext
    match a with
    | ⟨0, _⟩ => show win0_2.index t 0 * 512 + 1 * (j 0).val = (j 0).val; rw [hi.1]; omega
    | ⟨1, _⟩ => show win0_2.index t 1 * 512 + 1 * (j 1).val = (j 1).val; rw [hi.2]; omega
  rw [e, wq_array]
  pointwise []

/-- The block of the keys' weights. -/
theorem wk_at (t : Fin cfg0.N) (f o : Fin 512) :
    (iblk m c 3 t : Vec Ideal S512x512 .bf16) (ix2 f o) = m ((c : Thread nD τ).loc main_arg4) (ix2 f o) := by
  have hi := idx3 t
  have e : (iblk m c 3 t : Vec Ideal S512x512 .bf16) = V m c main_v1 := by
    funext j
    unfold iblk
    rw [View.read_apply]
    show V m c main_v1 _ = V m c main_v1 j
    congr 1
    funext a
    apply Fin.ext
    match a with
    | ⟨0, _⟩ => show win0_3.index t 0 * 512 + 1 * (j 0).val = (j 0).val; rw [hi.1]; omega
    | ⟨1, _⟩ => show win0_3.index t 1 * 512 + 1 * (j 1).val = (j 1).val; rw [hi.2]; omega
  rw [e, wk_array]
  pointwise []

/-- The block of the values' weights. -/
theorem wv_at (t : Fin cfg0.N) (f o : Fin 512) :
    (iblk m c 4 t : Vec Ideal S512x512 .bf16) (ix2 f o) = m ((c : Thread nD τ).loc main_arg6) (ix2 o f) := by
  have hi := idx4 t
  have e : (iblk m c 4 t : Vec Ideal S512x512 .bf16) = V m c main_v3 := by
    funext j
    unfold iblk
    rw [View.read_apply]
    show V m c main_v3 _ = V m c main_v3 j
    congr 1
    funext a
    apply Fin.ext
    match a with
    | ⟨0, _⟩ => show win0_4.index t 0 * 512 + 1 * (j 0).val = (j 0).val; rw [hi.1]; omega
    | ⟨1, _⟩ => show win0_4.index t 1 * 512 + 1 * (j 1).val = (j 1).val; rw [hi.2]; omega
  rw [e, wv_array]
  pointwise []

/-- The block of the queries' bias. -/
theorem bq_at (t : Fin cfg0.N) (o : Fin 512) :
    (iblk m c 5 t : Vec Ideal S1x512 .f32) (ix2 0 o) = m ((c : Thread nD τ).loc main_arg3) (ix1 o) := by
  have hi := idx5 t
  have e : (iblk m c 5 t : Vec Ideal S1x512 .f32) = V m c main_v4 := by
    funext j
    unfold iblk
    rw [View.read_apply]
    show V m c main_v4 _ = V m c main_v4 j
    congr 1
    funext a
    apply Fin.ext
    match a with
    | ⟨0, _⟩ => show win0_5.index t 0 * 1 + 1 * (j 0).val = (j 0).val; rw [hi.1]; omega
    | ⟨1, _⟩ => show win0_5.index t 1 * 512 + 1 * (j 1).val = (j 1).val; rw [hi.2]; omega
  rw [e, bq_array]
  pointwise []

/-- The block of the values' bias. -/
theorem bv_at (t : Fin cfg0.N) (o : Fin 512) :
    (iblk m c 6 t : Vec Ideal S1x512 .f32) (ix2 0 o) = m ((c : Thread nD τ).loc main_arg7) (ix1 o) := by
  have hi := idx6 t
  have e : (iblk m c 6 t : Vec Ideal S1x512 .f32) = V m c main_v5 := by
    funext j
    unfold iblk
    rw [View.read_apply]
    show V m c main_v5 _ = V m c main_v5 j
    congr 1
    funext a
    apply Fin.ext
    match a with
    | ⟨0, _⟩ => show win0_6.index t 0 * 1 + 1 * (j 0).val = (j 0).val; rw [hi.1]; omega
    | ⟨1, _⟩ => show win0_6.index t 1 * 512 + 1 * (j 1).val = (j 1).val; rw [hi.2]; omega
  rw [e, bv_array]
  pointwise []

end Cert.KernelIdeal.Blocks

end
-- ==== Proof.Payload.lean ====
/-
  The kernel's vector expressions read at an index, over the extended reals.
-/
module

public import proofs.«01_k».proof.Proof.Cases
public import proofs.«01_k».proof.Proof.Consts
public import proofs.«01_k».proof.Proof.Attention

@[expose] public section

set_option maxRecDepth 16384

noncomputable section

namespace Cert.KernelIdeal.Payload

open Cert.KernelIdeal Cert.KernelIdeal.Gen Cert.KernelIdeal.Cases Idealize.ShloMosaic Idealize.ShloMosaic.TcCoe Idealize.SL.Sem

/-- The transposed keys at feature `o` of token `j`. -/
theorem kt_at (x : Vec Ideal S1x4096x512 .f32) (w : Vec Ideal S512x512 .bf16) (o : Fin 512) (j : Fin 4096) :
    k0_pay3 (k0_pay2 x) w (ix2 o j) = ∑ f : Fin 512, w (ix2 o f) * x (ix3 0 j f) := by
  pointwise [k0_pay3, k0_pay2]

/-- The values at feature `e` of token `j`. -/
theorem v_at (x : Vec Ideal S1x4096x512 .f32) (w : Vec Ideal S512x512 .bf16) (j : Fin 4096) (e : Fin 512) :
    k0_pay4 (k0_pay2 x) w (ix2 j e) = ∑ f : Fin 512, x (ix3 0 j f) * w (ix2 f e) := by
  pointwise [k0_pay4, k0_pay2]

/-- The queries at feature `o` of the block's row `r`. -/
theorem q_at (x : Vec Ideal S1x1024x512 .f32) (w : Vec Ideal S512x512 .f32) (b : Vec Ideal S1x512 .f32) (r : Fin 1024) (o : Fin 512) :
    k0_pay5 x w b (ix2 r o) = (∑ f : Fin 512, x (ix3 0 r f) * (w (ix2 f o) * Attention.scale)) + b (ix2 0 o) * Attention.scale := by
  have hs : Ideal.div (Named.named (F := Ideal) (φ := .f32) κ "log2_e" 0x3FB8AA3B#32)
      (Scalar.powf (Ideal.ofBits .f32 0x44000000#32) (Ideal.ofBits .f32 0x3F000000#32)) = Attention.scale := by
    rw [Consts.ofBits_512, Consts.ofBits_half]
    unfold Attention.scale Attention.root
    exact congrArg (fun z => Ideal.div z _) (IdealRules.named_const.ideal_named_scalar _ _ _ _ rfl)
  pointwise [k0_pay5]
  rw [hs]

/-- The weights of the first half of the tokens. -/
theorem e_at (q : Vec Ideal S1024x512 .bf16) (k : Vec Ideal S512x2048 .bf16) (r : Fin 1024) (j : Fin 2048) :
    k0_pay7 q k (ix2 r j) = Ideal.exp2 (∑ o : Fin 512, q (ix2 r o) * k (ix2 o j)) := by
  pointwise [k0_pay7]
  rfl

/-- The sum of those weights. -/
theorem l_at (q : Vec Ideal S1024x512 .bf16) (k : Vec Ideal S512x2048 .bf16) (r : Fin 1024) :
    k0_pay8 q k (ix2 r 0) = ∑ j : Fin 2048, k0_pay7 q k (ix2 r j) := by
  pointwise [k0_pay8]

/-- The accumulator starts at zero. -/
theorem zero_at (j) : (k0_pay6 (F := Ideal)) j = 0 := by
  pointwise [k0_pay6]

/-- The block the body writes: the second half added to the first, divided by the weights' sum, the bias added. -/
theorem out_at (acc : Vec Ideal S1024x512 .f32) (e : Vec Ideal S1024x2048 .f32) (l : Vec Ideal S1024x1 .f32) (v : Vec Ideal S2048x512 .bf16)
    (q : Vec Ideal S1024x512 .bf16) (k : Vec Ideal S512x2048 .bf16) (v' : Vec Ideal S2048x512 .bf16) (b : Vec Ideal S1x512 .f32)
    (r : Fin 1024) (d : Fin 512) :
    k0_pay1 acc e l v q k v' b (ix3 0 r d) =
      Ideal.div ((acc (ix2 r d) + ∑ j : Fin 2048, e (ix2 r j) * v (ix2 j d)) + ∑ j : Fin 2048, k0_pay7 q k (ix2 r j) * v' (ix2 j d))
        (l (ix2 r 0) + ∑ j : Fin 2048, k0_pay7 q k (ix2 r j)) + b (ix2 0 d) := by
  pointwise [k0_pay1, k0_pay7]

end Cert.KernelIdeal.Payload

end
-- ==== Proof.State.lean ====
/-
  What the kernel's carried scratch and its result array hold.
-/
module

public import proofs.«01_k».proof.Proof.Gen.KernelIdeal.Value
public import proofs.«01_k».proof.Proof.Cases
public import proofs.«01_k».proof.Proof.Blocks
public import proofs.«01_k».proof.Proof.Payload

@[expose] public section

set_option maxRecDepth 16384

noncomputable section

namespace Cert.KernelIdeal.State

open Cert.KernelIdeal Cert.KernelIdeal.Gen Cert.KernelIdeal.Value Cert.KernelIdeal.Cases Cert.KernelIdeal.Blocks Idealize.ShloMosaic
  Idealize.ShloMosaic.TcCoe Idealize.SL.Sem

variable (m : (ℓ : Loc nD τ sig) → Buf (Elt Ideal) ℓ) (c : Dev nD)

/-- Sequence `b`'s tokens. -/
abbrev tokens (b : Fin 4) : Attention.Tokens := fun r f => m ((c : Thread nD τ).loc main_arg0) (ix3 b r f)
/-- The queries' weights. -/
abbrev wq : Attention.Weights := fun o f => m ((c : Thread nD τ).loc main_arg2) (ix2 o f)
/-- The queries' bias. -/
abbrev bq : Fin 512 → EReal := fun o => m ((c : Thread nD τ).loc main_arg3) (ix1 o)
/-- The keys' weights. -/
abbrev wk : Attention.Weights := fun o f => m ((c : Thread nD τ).loc main_arg4) (ix2 o f)
/-- The values' weights. -/
abbrev wv : Attention.Weights := fun o f => m ((c : Thread nD τ).loc main_arg6) (ix2 o f)
/-- The values' bias. -/
abbrev bv : Fin 512 → EReal := fun o => m ((c : Thread nD τ).loc main_arg7) (ix1 o)

/-- The transposed keys of point `t`'s sequence. -/
abbrev keys (t : Fin cfg0.N) : Vec Ideal S512x4096 .bf16 := k0_pay3 (k0_pay2 (iblk m c 1 t)) (iblk m c 3 t)
/-- The values of point `t`'s sequence. -/
abbrev vals (t : Fin cfg0.N) : Vec Ideal S4096x512 .bf16 := k0_pay4 (k0_pay2 (iblk m c 1 t)) (iblk m c 4 t)

/-- The keys at an index. -/
theorem keys_at (t : Fin cfg0.N) (o : Fin 512) (j : Fin 4096) :
    keys m c t (ix2 o j) = Attention.key (tokens m c (seq t)) (wk m c) o j := by
  unfold keys
  rw [Payload.kt_at]
  simp only [sequence_at, wk_at]
  rfl

/-- The values at an index. -/
theorem vals_at (t : Fin cfg0.N) (j : Fin 4096) (e : Fin 512) :
    vals m c t (ix2 j e) = Attention.proj (tokens m c (seq t)) (wv m c) j e := by
  unfold vals
  rw [Payload.v_at]
  simp only [sequence_at, wv_at]
  rfl

/-- Points of one sequence share their keys. -/
theorem keys_congr {t t' : Fin cfg0.N} (h : seq t = seq t') : keys m c t = keys m c t' := by
  funext i
  idx_vars i
  rw [keys_at, keys_at, h]

/-- Points of one sequence share their values. -/
theorem vals_congr {t t' : Fin cfg0.N} (h : seq t = seq t') : vals m c t = vals m c t' := by
  funext i
  idx_vars i
  rw [vals_at, vals_at, h]

/-- After each point the scratch holds the keys and the values of its sequence. -/
theorem scratch : ∀ (n : ℕ) (hn : n < cfg0.N), (outsAt0 m c n hn).2 = (keys m c ⟨n, hn⟩, vals m c ⟨n, hn⟩)
  | n, hn => by
    by_cases h0 : n % 4 = 0
    · rw [outsAt0_A m c ⟨n, hn⟩ h0]
      exact congrArg₂ Prod.mk (kt_A ..) (v_A ..)
    · match n, hn, h0 with
      | n + 1, hn, h0 =>
        rw [outsAt0_B m c ⟨n + 1, hn⟩ h0]
        have hs : seq ⟨n, Nat.lt_of_succ_lt hn⟩ = seq ⟨n + 1, hn⟩ := Fin.ext (by show n / 4 = (n + 1) / 4; omega)
        have ih := scratch n (Nat.lt_of_succ_lt hn)
        rw [← keys_congr m c hs, ← vals_congr m c hs]
        exact ih

/-- What each point writes: the block of its queries with its sequence's keys and values. -/
theorem block (t : Fin cfg0.N) : (outsAt0 m c t.val t.isLt).1
    = outBlock (iblk m c 0 t) (iblk m c 2 t) (iblk m c 5 t) (iblk m c 6 t) (keys m c t) (vals m c t) := by
  by_cases h0 : t.val % 4 = 0
  · exact (congrArg Prod.fst (outsAt0_A m c t h0)).trans (by
      dsimp only
      rw [out_A])
  · have hl : t.val - 1 < cfg0.N := Nat.lt_of_le_of_lt (Nat.sub_le _ _) t.isLt
    have hs : seq ⟨t.val - 1, hl⟩ = seq t := Fin.ext (by show (t.val - 1) / 4 = t.val / 4; omega)
    refine (congrArg Prod.fst (outsAt0_B m c t h0)).trans ?_
    dsimp only
    rw [out_B, scratch m c (t.val - 1) hl]
    dsimp only
    rw [keys_congr m c hs, vals_congr m c hs]

/-- A point's scaled queries at an index. -/
theorem query_at (t : Fin cfg0.N) (r : Fin 1024) (o : Fin 512) :
    k0_pay5 (iblk m c 0 t) (iblk m c 2 t) (iblk m c 5 t) (ix2 r o)
      = Attention.query (tokens m c (seq t)) (wq m c) (bq m c) (tok t r) o := by
  rw [Payload.q_at]
  simp only [tokens_at, wq_at, bq_at]
  rfl

/-- The first half of the keys at an index. -/
theorem ktLo_at (kt : Vec Ideal S512x4096 .bf16) (o : Fin 512) (j : Fin 2048) : ktLo kt (ix2 o j) = kt (ix2 o (Attention.lo j)) := by
  pointwise [ktLo]
  rfl
/-- The second half of the keys at an index. -/
theorem ktHi_at (kt : Vec Ideal S512x4096 .bf16) (o : Fin 512) (j : Fin 2048) : ktHi kt (ix2 o j) = kt (ix2 o (Attention.hi j)) := by
  pointwise [ktHi]
  rfl
/-- The first half of the values at an index. -/
theorem vLo_at (v : Vec Ideal S4096x512 .bf16) (j : Fin 2048) (e : Fin 512) : vLo v (ix2 j e) = v (ix2 (Attention.lo j) e) := by
  pointwise [vLo]
  rfl
/-- The second half of the values at an index. -/
theorem vHi_at (v : Vec Ideal S4096x512 .bf16) (j : Fin 2048) (e : Fin 512) : vHi v (ix2 j e) = v (ix2 (Attention.hi j) e) := by
  pointwise [vHi]
  rfl

/-- The weights of the first half of the keys. -/
theorem weight_lo (t : Fin cfg0.N) (r : Fin 1024) (j : Fin 2048) :
    k0_pay7 (k0_pay5 (iblk m c 0 t) (iblk m c 2 t) (iblk m c 5 t)) (ktLo (keys m c t)) (ix2 r j)
      = Attention.weight (tokens m c (seq t)) (wq m c) (wk m c) (bq m c) (tok t r) (Attention.lo j) := by
  rw [Payload.e_at]
  simp only [query_at]
  unfold Attention.weight
  congr 1
  refine Finset.sum_congr rfl fun o _ => ?_
  rw [ktLo_at, keys_at]

/-- The weights of the second half of the keys. -/
theorem weight_hi (t : Fin cfg0.N) (r : Fin 1024) (j : Fin 2048) :
    k0_pay7 (k0_pay5 (iblk m c 0 t) (iblk m c 2 t) (iblk m c 5 t)) (ktHi (keys m c t)) (ix2 r j)
      = Attention.weight (tokens m c (seq t)) (wq m c) (wk m c) (bq m c) (tok t r) (Attention.hi j) := by
  rw [Payload.e_at]
  simp only [query_at]
  unfold Attention.weight
  congr 1
  refine Finset.sum_congr rfl fun o _ => ?_
  rw [ktHi_at, keys_at]

/-- An entry of the block that a point writes. -/
theorem block_at (t : Fin cfg0.N) (r : Fin 1024) (d : Fin 512) :
    outBlock (iblk m c 0 t) (iblk m c 2 t) (iblk m c 5 t) (iblk m c 6 t) (keys m c t) (vals m c t) (ix3 0 r d)
      = Attention.kernelAt (tokens m c (seq t)) (wq m c) (wk m c) (wv m c) (bq m c) (bv m c) (tok t r) d := by
  unfold outBlock
  rw [Payload.out_at, Payload.l_at, Payload.zero_at, zero_add]
  have hlo : ∀ j : Fin 2048, vLo (vals m c t) (ix2 j d) = Attention.proj (tokens m c (seq t)) (wv m c) (Attention.lo j) d :=
    fun j => (vLo_at _ j d).trans (vals_at m c t _ d)
  have hhi : ∀ j : Fin 2048, vHi (vals m c t) (ix2 j d) = Attention.proj (tokens m c (seq t)) (wv m c) (Attention.hi j) d :=
    fun j => (vHi_at _ j d).trans (vals_at m c t _ d)
  have el : ∀ j : Fin 2048, Attention.weight (tokens m c (seq t)) (wq m c) (wk m c) (bq m c) (tok t r) (Attention.lo j)
        * vLo (vals m c t) (ix2 j d) = _ := fun j => congrArg _ (hlo j)
  have eh : ∀ j : Fin 2048, Attention.weight (tokens m c (seq t)) (wq m c) (wk m c) (bq m c) (tok t r) (Attention.hi j)
        * vHi (vals m c t) (ix2 j d) = _ := fun j => congrArg _ (hhi j)
  simp only [weight_lo, weight_hi, bv_at]
  rw [Finset.sum_congr rfl fun j _ => el j, Finset.sum_congr rfl fun j _ => eh j]
  rfl

/-- The kernel's result at sequence `b`, token `r` and feature `d`. -/
theorem result_at (b : Fin 4) (r : Fin 4096) (d : Fin 512) :
    (G7 m c : Vec Ideal S4x4096x512 .f32) (ix3 b r d)
      = Attention.kernelAt (tokens m c b) (wq m c) (wk m c) (wv m c) (bq m c) (bv m c) r d := by
  have hN : cfg0.N = 16 := N_0
  have hp : pt7Of (ix3 b r d : S4x4096x512.Idx) = 4 * b.val + r.val / 1024 := by
    show 4 * (b.val / 1 - 0) + 1 * (r.val / 1024 - 0) + 1 * (d.val / 512 - 0) = _
    omega
  have hlt : 4 * b.val + r.val / 1024 < cfg0.N := by rw [hN]; omega
  have hl : loc7Of (ix3 b r d : S4x4096x512.Idx) = (ix3 0 (⟨r.val % 1024, Nat.mod_lt _ (by decide)⟩ : Fin 1024) d : S1x1024x512.Idx) := by
    funext a
    apply Fin.ext
    match a with
    | ⟨0, _⟩ => show b.val % 1 = 0; omega
    | ⟨1, _⟩ => show r.val % 1024 = r.val % 1024; rfl
    | ⟨2, _⟩ => show d.val % 512 = d.val; omega
  unfold G7
  rw [dif_pos (by rw [hp]; exact hlt), hl, ← outsAt0_sweep m c _ (by rw [hp]; exact hlt)]
  have e : ∀ (n : ℕ) (hn : n < cfg0.N), n = 4 * b.val + r.val / 1024 →
      (outsAt0 m c n hn).1 (ix3 0 (⟨r.val % 1024, Nat.mod_lt _ (by decide)⟩ : Fin 1024) d)
        = Attention.kernelAt (tokens m c b) (wq m c) (wk m c) (wv m c) (bq m c) (bv m c) r d := by
    intro n hn h
    have hs : seq ⟨n, hn⟩ = b := Fin.ext (by show n / 4 = b.val; omega)
    have ht : tok ⟨n, hn⟩ ⟨r.val % 1024, Nat.mod_lt _ (by decide)⟩ = r :=
      Fin.ext (by show 1024 * (n % 4) + r.val % 1024 = r.val; omega)
    have hb := congrFun (block m c ⟨n, hn⟩) (ix3 0 (⟨r.val % 1024, Nat.mod_lt _ (by decide)⟩ : Fin 1024) d)
    rw [block_at, hs, ht] at hb
    exact hb
  exact e _ _ hp

end Cert.KernelIdeal.State

end
-- ==== Proof.Pre.lean ====
/-
  The precondition read off: the arrays it names hold real numbers.
-/
module

public import proofs.«01_k».proof.Defs
public import proofs.«01_k».proof.Proof.Consts
public import Idealize.ShloMosaic.Lib.Pointwise

@[expose] public section

set_option maxRecDepth 16384

noncomputable section

namespace Cert.Finite

open Cert.Pre_finite Idealize.ShloMosaic Idealize.ShloMosaic.TcCoe Idealize.SL.Sem

/-- The shape relations that the precondition's operations take. -/
instance facts : Cert.Pre_finite.Facts where
  bcast_S_S4x4096x512 := by decide
  bcast_S_S512x512 := by decide
  bcast_S_S512 := by decide

/-- A number whose magnitude tests below the largest is real. -/
theorem real_of_test {x : EReal} (h : BitVec.ofBool (decide (FloatOps.absf (F := Ideal) (φ := .f32) x < (⊤ : EReal))) = 1#1) :
    ∃ y : ℝ, x = y := by
  have h' : max x (-x) < ⊤ := by
    by_contra hn
    have hd : decide (FloatOps.absf (F := Ideal) (φ := .f32) x < (⊤ : EReal)) = false := decide_eq_false hn
    rw [hd] at h
    exact absurd h (by decide)
  induction x using EReal.rec with
  | bot => simp at h'
  | coe y => exact ⟨y, rfl⟩
  | top => simp at h'

/-- The test of one entry of an array of three axes. -/
theorem real3 (x : FVec Ideal S4x4096x512 .f32)
    (h : (cmpf .olt (Host.absf x) (broadcastInDim S4x4096x512 ![] Facts.bcast_S_S4x4096x512 (constant S_ .f32 0x7F800000#32)) : IVec S4x4096x512 1) = fun _ => 1#1)
    (b : Fin 4) (r : Fin 4096) (f : Fin 512) : ∃ y : ℝ, x (ix3 b r f) = y := by
  have h := congrFun h (ix3 b r f)
  revert h
  pointwise []
  rw [Consts.ofBits_inf]
  exact real_of_test

/-- The test of one entry of an array of two axes. -/
theorem real2 (x : FVec Ideal S512x512 .f32)
    (h : (cmpf .olt (Host.absf x) (broadcastInDim S512x512 ![] Facts.bcast_S_S512x512 (constant S_ .f32 0x7F800000#32)) : IVec S512x512 1) = fun _ => 1#1)
    (o f : Fin 512) : ∃ y : ℝ, x (ix2 o f) = y := by
  have h := congrFun h (ix2 o f)
  revert h
  pointwise []
  rw [Consts.ofBits_inf]
  exact real_of_test

/-- The test of one entry of an array of one axis. -/
theorem real1 (x : FVec Ideal S512 .f32)
    (h : (cmpf .olt (Host.absf x) (broadcastInDim S512 ![] Facts.bcast_S_S512 (constant S_ .f32 0x7F800000#32)) : IVec S512 1) = fun _ => 1#1)
    (o : Fin 512) : ∃ y : ℝ, x (ix1 o) = y := by
  have h := congrFun h (ix1 o)
  revert h
  pointwise []
  rw [Consts.ofBits_inf]
  exact real_of_test

open Cert.KernelIdeal in
/-- Under the precondition the tokens and the queries' and the keys' weights and biases are real. -/
theorem reals (m : (ℓ : Loc nD τ sig) → Buf (Elt Ideal) ℓ) (h : Cert.Pre_KernelIdeal_finite m) (c : Dev nD) :
    (∃ x : Fin 4 → Fin 4096 → Fin 512 → ℝ, ∀ b r f, m ((c : Thread nD τ).loc main_arg0) (ix3 b r f) = (x b r f : EReal))
    ∧ (∃ w : Fin 512 → Fin 512 → ℝ, ∀ o f, m ((c : Thread nD τ).loc main_arg2) (ix2 o f) = (w o f : EReal))
    ∧ (∃ w : Fin 512 → ℝ, ∀ o, m ((c : Thread nD τ).loc main_arg3) (ix1 o) = (w o : EReal))
    ∧ (∃ w : Fin 512 → Fin 512 → ℝ, ∀ o f, m ((c : Thread nD τ).loc main_arg4) (ix2 o f) = (w o f : EReal))
    ∧ (∃ w : Fin 512 → ℝ, ∀ o, m ((c : Thread nD τ).loc main_arg5) (ix1 o) = (w o : EReal)) := by
  obtain ⟨h0, h2, h3, h4, h5⟩ := h c
  refine ⟨?_, ?_, ?_, ?_, ?_⟩
  · choose x hx using fun b r f => real3 _ h0 b r f
    exact ⟨x, hx⟩
  · choose x hx using fun o f => real2 _ h2 o f
    exact ⟨x, hx⟩
  · choose x hx using fun o => real1 _ h3 o
    exact ⟨x, hx⟩
  · choose x hx using fun o f => real2 _ h4 o f
    exact ⟨x, hx⟩
  · choose x hx using fun o => real1 _ h5 o
    exact ⟨x, hx⟩

end Cert.Finite

end
-- ==== Proof.Equation.lean ====
/-
  The equation: from memories that agree on the arguments, the reference's result is the kernel's.
-/
module

public import proofs.«01_k».proof.Proof.Reference
public import proofs.«01_k».proof.Proof.State
public import proofs.«01_k».proof.Proof.Pre

@[expose] public section

set_option maxRecDepth 16384

noncomputable section

namespace Cert.Equation

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Under the precondition the reference's result array is the kernel's. -/
theorem result_eq (c : Dev Cert.KernelIdeal.nD) (hpre : Cert.Pre_KernelIdeal_finite m)
    (h0 : (m' ((c.tc : Thread Cert.ReferenceIdeal.nD Cert.ReferenceIdeal.τ).loc Cert.ReferenceIdeal.main_arg0))
      = m ((c.tc : Thread Cert.KernelIdeal.nD Cert.KernelIdeal.τ).loc Cert.KernelIdeal.main_arg0))
    (h2 : (m' ((c.tc : Thread Cert.ReferenceIdeal.nD Cert.ReferenceIdeal.τ).loc Cert.ReferenceIdeal.main_arg2))
      = m ((c.tc : Thread Cert.KernelIdeal.nD Cert.KernelIdeal.τ).loc Cert.KernelIdeal.main_arg2))
    (h3 : (m' ((c.tc : Thread Cert.ReferenceIdeal.nD Cert.ReferenceIdeal.τ).loc Cert.ReferenceIdeal.main_arg3))
      = m ((c.tc : Thread Cert.KernelIdeal.nD Cert.KernelIdeal.τ).loc Cert.KernelIdeal.main_arg3))
    (h4 : (m' ((c.tc : Thread Cert.ReferenceIdeal.nD Cert.ReferenceIdeal.τ).loc Cert.ReferenceIdeal.main_arg4))
      = m ((c.tc : Thread Cert.KernelIdeal.nD Cert.KernelIdeal.τ).loc Cert.KernelIdeal.main_arg4))
    (h5 : (m' ((c.tc : Thread Cert.ReferenceIdeal.nD Cert.ReferenceIdeal.τ).loc Cert.ReferenceIdeal.main_arg5))
      = m ((c.tc : Thread Cert.KernelIdeal.nD Cert.KernelIdeal.τ).loc Cert.KernelIdeal.main_arg5))
    (h6 : (m' ((c.tc : Thread Cert.ReferenceIdeal.nD Cert.ReferenceIdeal.τ).loc Cert.ReferenceIdeal.main_arg6))
      = m ((c.tc : Thread Cert.KernelIdeal.nD Cert.KernelIdeal.τ).loc Cert.KernelIdeal.main_arg6))
    (h7 : (m' ((c.tc : Thread Cert.ReferenceIdeal.nD Cert.ReferenceIdeal.τ).loc Cert.ReferenceIdeal.main_arg7))
      = m ((c.tc : Thread Cert.KernelIdeal.nD Cert.KernelIdeal.τ).loc Cert.KernelIdeal.main_arg7)) :
    (Cert.ReferenceIdeal.Value.res_out0 m' c : FVec Ideal Cert.ReferenceIdeal.S4x4096x512 .f32)
      = (Cert.KernelIdeal.Value.G7 m c : FVec Ideal Cert.KernelIdeal.S4x4096x512 .f32) := by
  obtain ⟨⟨x, hx⟩, ⟨Wq, hWq⟩, ⟨bq, hbq⟩, ⟨Wk, hWk⟩, ⟨bk, hbk⟩⟩ := Cert.Finite.reals m hpre c
  funext i
  idx_vars i
  rw [Cert.ReferenceIdeal.At.res_at]
  refine Eq.trans ?_ (Cert.KernelIdeal.State.result_at m c i0 i1 i2).symm
  have e0 : Cert.ReferenceIdeal.At.tokens m' c i0 = fun j f => (x i0 j f : EReal) :=
    funext fun j => funext fun f => (congrFun h0 (ix3 i0 j f)).trans (hx i0 j f)
  have e2 : Cert.ReferenceIdeal.At.wq m' c = fun o f => (Wq o f : EReal) :=
    funext fun o => funext fun f => (congrFun h2 (ix2 o f)).trans (hWq o f)
  have e3 : Cert.ReferenceIdeal.At.bq m' c = fun o => (bq o : EReal) :=
    funext fun o => (congrFun h3 (ix1 o)).trans (hbq o)
  have e4 : Cert.ReferenceIdeal.At.wk m' c = fun o f => (Wk o f : EReal) :=
    funext fun o => funext fun f => (congrFun h4 (ix2 o f)).trans (hWk o f)
  have e5 : Cert.ReferenceIdeal.At.bk m' c = fun o => (bk o : EReal) :=
    funext fun o => (congrFun h5 (ix1 o)).trans (hbk o)
  have e6 : Cert.ReferenceIdeal.At.wv m' c = Cert.KernelIdeal.State.wv m c :=
    funext fun o => funext fun f => congrFun h6 (ix2 o f)
  have e7 : Cert.ReferenceIdeal.At.bv m' c = Cert.KernelIdeal.State.bv m c := funext fun o => congrFun h7 (ix1 o)
  have k0 : Cert.KernelIdeal.State.tokens m c i0 = fun j f => (x i0 j f : EReal) := funext fun j => funext fun f => hx i0 j f
  have k2 : Cert.KernelIdeal.State.wq m c = fun o f => (Wq o f : EReal) := funext fun o => funext fun f => hWq o f
  have k3 : Cert.KernelIdeal.State.bq m c = fun o => (bq o : EReal) := funext fun o => hbq o
  have k4 : Cert.KernelIdeal.State.wk m c = fun o f => (Wk o f : EReal) := funext fun o => funext fun f => hWk o f
  rw [e0, e2, e3, e4, e5, e6, e7, k0, k2, k3, k4]
  exact Cert.Attention.refAt_eq_kernelAt (x i0) Wq Wk bq bk _ _ i1 i2

end Cert.Equation

end
-- ==== Proof.lean ====
/-
  The proof of the claim, assembled: the frames as generated, the named constant's value, and the equation of the two results.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments and ends quiescent. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is one over the logarithm of two. -/
theorem preserves_Kernel_KernelIdeal : preserves_Kernel_KernelIdeal :=
  IdealRules.named_const.statement Cert.KernelIdeal.κ "log2_e" .f32 0x3FB8AA3B#32 (((Real.log 2)⁻¹ : ℝ) : EReal) rfl

/-- On finite arguments the kernel and the reference end with equal results. -/
theorem algebraic_KernelIdeal_ReferenceIdeal : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, _, h2, h3, h4, h5, h6, h7⟩ := hagree c
  exact (h c).1.trans (Cert.Equation.result_eq m m' c hpre h0 h2 h3 h4 h5 h6 h7)

/-- Everything claimed. -/
theorem claim : Cert.Claim := ⟨Cert.Kernel.Gen.facts, Cert.KernelIdeal.Gen.facts, Cert.ReferenceIdeal.Gen.facts, Cert.Finite.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, preserves_Kernel_KernelIdeal,
  algebraic_KernelIdeal_ReferenceIdeal⟩

end Cert.Proof

end
